-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_below_infinity [hPre_below_infinity : Cert.Pre_below_infinity.Facts] (m : (ℓ : Loc Cert.KernelIdeal.nD Cert.KernelIdeal.τ Cert.KernelIdeal.sig) → Buf (Elt Ideal) ℓ) : Prop :=
  ∀ c : Dev Cert.KernelIdeal.nD,
    (Cert.Pre_below_infinity.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_below_infinity [hPre_below_infinity : Cert.Pre_below_infinity.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_below_infinity.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_below_infinity [hKernelIdeal : Cert.KernelIdeal.Facts] [hPre_below_infinity : Cert.Pre_below_infinity.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_below_infinity m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_below_infinity [hReferenceIdeal : Cert.ReferenceIdeal.Facts] [hPre_below_infinity : Cert.Pre_below_infinity.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_below_infinity m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_below_infinity [hKernelIdeal : Cert.KernelIdeal.Facts] [hReferenceIdeal : Cert.ReferenceIdeal.Facts] [hPre_below_infinity : Cert.Pre_below_infinity.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_below_infinity m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_below_infinity : Cert.Pre_below_infinity.Facts),
    quiescent_Kernel (hKernel := hKernel)
    ∧ quiescent_KernelIdeal (hKernelIdeal := hKernelIdeal)
    ∧ quiescent_KernelIdeal_pre_below_infinity (hKernelIdeal := hKernelIdeal) (hPre_below_infinity := hPre_below_infinity)
    ∧ quiescent_ReferenceIdeal (hReferenceIdeal := hReferenceIdeal)
    ∧ quiescent_ReferenceIdeal_pre_below_infinity (hReferenceIdeal := hReferenceIdeal) (hPre_below_infinity := hPre_below_infinity)
    ∧ preserves_Kernel_KernelIdeal
    ∧ algebraic_KernelIdeal_ReferenceIdeal_pre_below_infinity (hKernelIdeal := hKernelIdeal) (hReferenceIdeal := hReferenceIdeal) (hPre_below_infinity := hPre_below_infinity)
-- ==== Pre_below_infinity.lean ====
abbrev S128x100000 : Shape := ⟨2, ![128, 100000]⟩
abbrev S_ : Shape := ⟨0, ![]⟩

class Facts : Prop where
  bcast_S_S128x100000 : S_.BroadcastsInDim S128x100000 (![] : Fin 0 → Fin S128x100000.rank)

variable [Facts]

def fn {F : FTy → Type} [FloatOps F] (main_arg0 : FVec F S128x100000 .f32) : IVec S128x100000 1 :=
  let main_cst : FVec F S_ .f32 := constant S_ .f32 0x7F800000#32
  let main_v0 : FVec F S128x100000 .f32 := broadcastInDim S128x100000 ![] bcast_S_S128x100000 main_cst
  let main_v1 : IVec S128x100000 1 := cmpf .olt main_arg0 main_v0
  main_v1
-- ==== Kernel.lean ====
abbrev S128x100000 : Shape := ⟨2, ![128, 100000]⟩
abbrev S8x8x100000 : Shape := ⟨3, ![8, 8, 100000]⟩
abbrev S8 : Shape := ⟨1, ![8]⟩
abbrev S1 : Shape := ⟨1, ![1]⟩
abbrev S_ : Shape := ⟨0, ![]⟩
abbrev S1x8x100000 : Shape := ⟨3, ![1, 8, 100000]⟩
abbrev S8x100000 : Shape := ⟨2, ![8, 100000]⟩
abbrev S8x12544 : Shape := ⟨2, ![8, 12544]⟩
abbrev S8x12192 : Shape := ⟨2, ![8, 12192]⟩
abbrev S8x1 : Shape := ⟨2, ![8, 1]⟩

abbrev nBuf : Space → Nat
  | .hbm => 2
  | .vmem => 2
  | .smem => 0
  | _ => 0

abbrev bufTy : (tb : Table) → Fin (tcTables nBuf tb) → BufTy
  | .hbm, ⟨0, _⟩ => ⟨S128x100000, .f32⟩
  | .hbm, ⟨1, _⟩ => ⟨S128x100000, .f32⟩
  | .local _ .vmem, ⟨0, _⟩ => ⟨S8x8x100000, .f32⟩
  | .local _ .vmem, ⟨1, _⟩ => ⟨S8x8x100000, .f32⟩
  | _, _ => ⟨S128x100000, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_scratch0 : Ref sig .tc := ⟨.vmem, 0, rfl⟩
abbrev cc0_scratch1 : Ref sig .tc := ⟨.vmem, 1, rfl⟩

abbrev nD : Nat := 1
abbrev τ : Topo := Topo.v7x

variable {F : FTy → Type} [FloatOps F]

abbrev grid0 : Pipeline.Grid := .none
-- ==== ReferenceIdeal.lean ====
abbrev S128x100000 : Shape := ⟨2, ![128, 100000]⟩
abbrev S_ : Shape := ⟨0, ![]⟩
abbrev S128 : Shape := ⟨1, ![128]⟩
abbrev S128x1 : Shape := ⟨2, ![128, 1]⟩

abbrev nBuf : Space → Nat
  | .hbm => 11
  | .vmem => 0
  | .smem => 0
  | _ => 0

abbrev bufTy : (tb : Table) → Fin (tcTables nBuf tb) → BufTy
  | .hbm, ⟨0, _⟩ => ⟨S128x100000, .f32⟩
  | .hbm, ⟨1, _⟩ => ⟨S_, .f32⟩
  | .hbm, ⟨2, _⟩ => ⟨S128x100000, .f32⟩
  | .hbm, ⟨3, _⟩ => ⟨S128x100000, .f32⟩
  | .hbm, ⟨4, _⟩ => ⟨S128x100000, .f32⟩
  | .hbm, ⟨5, _⟩ => ⟨S_, .f32⟩
  | .hbm, ⟨6, _⟩ => ⟨S128, .f32⟩
  | .hbm, ⟨7, _⟩ => ⟨S128x1, .f32⟩
  | .hbm, ⟨8, _⟩ => ⟨S128x1, .f32⟩
  | .hbm, ⟨9, _⟩ => ⟨S128x100000, .f32⟩
  | .hbm, ⟨10, _⟩ => ⟨S128x100000, .f32⟩
  | _, _ => ⟨S128x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Proof.Names.lean ====
/-
  The pieces of memory the kernel's transfers move, named once for every index.

  The kernel cuts the 128 × 100000 array into sixteen groups of eight rows. It keeps eight slots of eight rows for the
  groups it reads and eight for the groups it writes, and one DMA semaphore per slot and direction. Here are the names of
  group `g`, of read slot `s` and write slot `s`, and of their semaphores, and what it means to hold each of them.
-/
module

public import proofs.«01_k».proof.Defs
public import proofs.«01_k».proof.Proof.Gen.KernelIdeal.Frame
public import proofs.«01_k».proof.Proof.Gen.KernelIdeal.Skeleton
public import Idealize.ShloMosaic.Lib.Pipeline.KitQuiescent
public import Idealize.ShloMosaic.Lib.Ring
public import Idealize.ShloMosaic.Lib.Tactic

@[expose] public section

noncomputable section

namespace Cert.Proof.Ring16

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the launch's, beside the counters the kernel's own transfers ride on -/

abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

omit [FloatOps F] in
/-- Equal assertions entail one another. -/
theorem entails_of_eq {P Q : sProp 𝕄} (e : P = Q) : P ⊢ Q := e ▸ .rfl

/-! ## Groups, slots, semaphores -/

/-- The array the kernel reads from and writes to. -/
abbrev arrM : Memref sig .tc .hbm S128x100000 .f32 := Memref.whole main_v0
/-- The eight read slots. -/
abbrev xbufM : Memref sig .tc .vmem S8x8x100000 .f32 := Memref.whole cc0_scratch0
/-- The eight write slots. -/
abbrev obufM : Memref sig .tc .vmem S8x8x100000 .f32 := Memref.whole cc0_scratch1

/-- The eight rows of the array from the given offset on. -/
abbrev rowsAt (off : Fin 2 → Nat) (h : ∀ a, off a + S8x100000.size a ≤ S128x100000.size a) : Memref sig .tc .hbm S8x100000 .f32 :=
  arrM.slice (Rect.unit (s := S128x100000) off S8x100000.size h) (fun _ => rfl)
/-- The slot of a buffer at the given offset. -/
abbrev slotAt (buf : Memref sig .tc .vmem S8x8x100000 .f32) (off : Fin 3 → Nat) (h : ∀ a, off a + S1x8x100000.size a ≤ S8x8x100000.size a) :
    Memref sig .tc .vmem S8x100000 .f32 :=
  (buf.slice (Rect.unit (s := S8x8x100000) off S1x8x100000.size h) (fun _ => rfl)).squeeze S8x100000 squeezes_S1x8x100000_S8x100000
/-- The semaphore of an array of eight at the given offset. -/
abbrev cellAt (sems : DmaSems sig S8) (off : Fin 1 → Nat) (h : ∀ a, off a + S1.size a ≤ S8.size a) : DmaSems sig S_ :=
  (sems.slice (Rect.unit (s := S8) off S1.size h)).squeeze S_ squeezes_S1_S_

abbrev grpOff (g : Fin 16) : Fin 2 → Nat := ![8 * g.val, 0]
theorem grpOff_inb (g : Fin 16) : ∀ a, grpOff g a + S8x100000.size a ≤ S128x100000.size a := by
  have := g.isLt; intro a; fin_cases a
  · show 8 * g.val + 8 ≤ 128; omega
  · show 0 + 100000 ≤ 100000; omega
abbrev slotOff (s : Fin 8) : Fin 3 → Nat := ![s.val, 0, 0]
theorem slotOff_inb (s : Fin 8) : ∀ a, slotOff s a + S1x8x100000.size a ≤ S8x8x100000.size a := by
  have := s.isLt; intro a; fin_cases a
  · show s.val + 1 ≤ 8; omega
  · show 0 + 8 ≤ 8; omega
  · show 0 + 100000 ≤ 100000; omega
abbrev cellOff (s : Fin 8) : Fin 1 → Nat := ![s.val]
theorem cellOff_inb (s : Fin 8) : ∀ a, cellOff s a + S1.size a ≤ S8.size a := by
  have := s.isLt; intro a; fin_cases a; show s.val + 1 ≤ 8; omega

/-- Group `g`: rows `8 g` to `8 g + 7` of the array. -/
abbrev grp (g : Fin 16) : Memref sig .tc .hbm S8x100000 .f32 := rowsAt (grpOff g) (grpOff_inb g)
/-- Read slot `s`. -/
abbrev xslot (s : Fin 8) : Memref sig .tc .vmem S8x100000 .f32 := slotAt xbufM (slotOff s) (slotOff_inb s)
/-- Write slot `s`. -/
abbrev oslot (s : Fin 8) : Memref sig .tc .vmem S8x100000 .f32 := slotAt obufM (slotOff s) (slotOff_inb s)
/-- Read slot `s`'s semaphore. -/
abbrev rcell (s : Fin 8) : DmaSems sig S_ := cellAt cc0_scratch2 (cellOff s) (cellOff_inb s)
/-- Write slot `s`'s semaphore. -/
abbrev wcell (s : Fin 8) : DmaSems sig S_ := cellAt cc0_scratch3 (cellOff s) (cellOff_inb s)

section Pieces
variable (c : Dev nD)

/-- The contents of the whole array on core `c`. -/
abbrev Arr : Type := Buf (Elt F) (arrM.view.loc (c : Thread nD τ))

/-- A view held at the contents `f` on its own elements. -/
abbrev held {sp : Space} {S : Shape} (M : Memref sig .tc sp S .f32) (f : Buf (Elt F) (M.view.loc (c : Thread nD τ))) : sProp 𝕄 :=
  M.view.loc (c : Thread nD τ) ↦[M.view.set]{fullShare} f
/-- A semaphore at zero. -/
abbrev idle (sem : DmaSems sig S_) : sProp 𝕄 := semVal ((c : Thread nD τ), SemLoc.dma sem.sem) 0

end Pieces

end Cert.Proof.Ring16

end
-- ==== Proof.Block.lean ====
/-
  What one block computes.

  A block is eight rows of the array. The kernel cuts each row into seven pieces of 12544 elements and a last piece of
  12192, takes the greatest element of each piece and then of the row, adds up the exponentials of the differences from
  the greatest, piece by piece, and subtracts from every element the greatest plus the logarithm of that sum. Here is that
  computation over any floats, and the array all sixteen blocks leave. The load and the store of a slot are read here
  too: a slot that has been filled loads as what filled it, and a slot that has been stored is sent on as what was stored.
-/
module

public import proofs.«01_k».proof.Proof.Names

@[expose] public section

noncomputable section

namespace Cert.Proof.Ring16

open Cert.KernelIdeal Cert.KernelIdeal.Gen
open Idealize.ShloMosaic
open Idealize.ShloMosaic.TcCoe

variable {F : FTy → Type} [FloatOps F]

/-! ## The computation -/

/-- Piece `k` of a row starts at column `12544 k`, and ends inside the row. -/
theorem piece_inb (k : Fin 7) : S8x100000.Slices ![0, 12544 * k.val] S8x12544 := by
  revert k; decide

/-- Piece `k` of the eight rows, 12544 columns wide. -/
def piece (x : FVec F S8x100000 .f32) (k : Fin 7) : FVec F S8x12544 .f32 :=
  extractStridedSlice S8x12544 ![0, 12544 * k.val] x (piece_inb k)
/-- The last piece of the eight rows, 12192 columns wide. -/
def lastPiece (x : FVec F S8x100000 .f32) : FVec F S8x12192 .f32 :=
  extractStridedSlice S8x12192 ![0, 87808] x slices_S8x100000_o0_87808_S8x12192

/-- The greatest element of piece `k`, row by row. -/
def pieceMax (x : FVec F S8x100000 .f32) (k : Fin 7) : FVec F S8x1 .f32 :=
  shapeCast S8x1 (multiReduction .maximumf [1] S8 (piece x k) 0xFF800000#32 reduces_S8x12544_S8 (.inl rfl) rfl) shapeCasts_S8_S8x1
/-- The greatest element of the last piece, row by row. -/
def lastMax (x : FVec F S8x100000 .f32) : FVec F S8x1 .f32 :=
  shapeCast S8x1 (multiReduction .maximumf [1] S8 (lastPiece x) 0xFF800000#32 reduces_S8x12192_S8 (.inl rfl) rfl) shapeCasts_S8_S8x1
/-- The greatest element of each row. -/
def rowMax (x : FVec F S8x100000 .f32) : FVec F S8x1 .f32 :=
  maximumf (maximumf (maximumf (maximumf (maximumf (maximumf (maximumf (pieceMax x 0) (pieceMax x 1)) (pieceMax x 2))
    (pieceMax x 3)) (pieceMax x 4)) (pieceMax x 5)) (pieceMax x 6)) (lastMax x)

/-- The sum over piece `k` of the exponentials of the differences from `m`, row by row. -/
def pieceSum (x : FVec F S8x100000 .f32) (m : FVec F S8x1 .f32) (k : Fin 7) : FVec F S8x1 .f32 :=
  shapeCast S8x1 (multiReduction .add [1] S8 (exp (subf (piece x k) (broadcastTo S8x12544 m broadcasts_S8x1_S8x12544)))
    0x00000000#32 reduces_S8x12544_S8 (.inl rfl) rfl) shapeCasts_S8_S8x1
/-- The same sum over the last piece. -/
def lastSum (x : FVec F S8x100000 .f32) (m : FVec F S8x1 .f32) : FVec F S8x1 .f32 :=
  shapeCast S8x1 (multiReduction .add [1] S8 (exp (subf (lastPiece x) (broadcastTo S8x12192 m broadcasts_S8x1_S8x12192)))
    0x00000000#32 reduces_S8x12192_S8 (.inl rfl) rfl) shapeCasts_S8_S8x1
/-- The same sum over the whole row. -/
def rowSum (x : FVec F S8x100000 .f32) (m : FVec F S8x1 .f32) : FVec F S8x1 .f32 :=
  addf (addf (addf (addf (addf (addf (addf (pieceSum x m 0) (pieceSum x m 1)) (pieceSum x m 2)) (pieceSum x m 3))
    (pieceSum x m 4)) (pieceSum x m 5)) (pieceSum x m 6)) (lastSum x m)

/-- What a block computes from its eight rows: every element less the row's greatest element plus the logarithm of the
    row's sum. -/
def blockOut (x : FVec F S8x100000 .f32) : FVec F S8x100000 .f32 :=
  subf x (broadcastTo S8x100000 (addf (rowMax x) (log (rowSum x (rowMax x)))) broadcasts_S8x1_S8x100000)

/-! ## The array the blocks leave -/

theorem rowGroup_lt (i : S128x100000.Idx) : (i 0).val / 8 < 16 := by
  have h : (i 0).val < 128 := (i 0).isLt
  omega
/-- The group row `i 0` lies in. -/
def rowGroup (i : S128x100000.Idx) : Fin 16 := ⟨(i 0).val / 8, rowGroup_lt i⟩
/-- The row's place in its group, and the column. -/
def inGroup (i : S128x100000.Idx) : S8x100000.Idx := fun a => match a with
  | ⟨0, _⟩ => ⟨(i 0).val % 8, Nat.mod_lt _ (by decide)⟩
  | ⟨1, _⟩ => i 1

/-- Group `g` of the array `x`. -/
def rowsOf (c : Dev nD) (x : Arr (F := F) c) (g : Fin 16) : FVec F S8x100000 .f32 := (grp g).view.read (Elt F) x

/-- The array once every group holds what its block computed from the group. -/
def result (c : Dev nD) (x : Arr (F := F) c) : Arr (F := F) c :=
  fun i => blockOut (rowsOf c x (rowGroup i)) (inGroup i)

/-- Where element `z` of group `g` lies in the array. -/
theorem grp_emb (g : Fin 16) (z : S8x100000.Idx) :
    rowGroup ((grp g).view.emb z) = g ∧ inGroup ((grp g).view.emb z) = z := by
  have h0 : (((grp g).view.emb z : S128x100000.Idx) 0).val = 8 * g.val + 1 * (z 0).val :=
    Rect.emb_apply (Rect.unit (s := S128x100000) (grpOff g) S8x100000.size (grpOff_inb g)) z 0
  have h1 : (((grp g).view.emb z : S128x100000.Idx) 1).val = 0 + 1 * (z 1).val :=
    Rect.emb_apply (Rect.unit (s := S128x100000) (grpOff g) S8x100000.size (grpOff_inb g)) z 1
  have hz : (z 0).val < 8 := (z 0).isLt
  refine ⟨Fin.ext ?_, funext fun a => Fin.ext ?_⟩
  · show (((grp g).view.emb z : S128x100000.Idx) 0).val / 8 = g.val
    omega
  · fin_cases a
    · show (((grp g).view.emb z : S128x100000.Idx) 0).val % 8 = (z 0).val
      omega
    · show (((grp g).view.emb z : S128x100000.Idx) 1).val = (z 1).val
      omega

/-- Writing over group `g` what its block computed leaves, on the group's elements, the array `result`. -/
theorem result_on_grp (c : Dev nD) (x : Arr (F := F) c) (g : Fin 16) (i : Idx ((grp g).view.loc (c : Thread nD τ)))
    (hi : i ∈ (grp g).view.set) :
    (grp g).view.writes (Elt F) x [⟨Rect.whole S8x100000, blockOut (rowsOf c x g)⟩] i = result c x i := by
  obtain ⟨z, -, rfl⟩ := Finset.mem_map.mp hi
  have h := congrFun (View.read_writes_whole (Val := Elt F) (grp g).view x (blockOut (rowsOf c x g))) z
  generalize (grp g).view.writes (Elt F) x [⟨Rect.whole S8x100000, blockOut (rowsOf c x g)⟩] = w at h ⊢
  refine Eq.trans ?_ (h.trans ?_)
  · rfl
  · obtain ⟨e1, e2⟩ := grp_emb g z
    show _ = blockOut (rowsOf c x (rowGroup ((grp g).view.emb z))) (inGroup ((grp g).view.emb z))
    rw [e1, e2]

/-! ## Loading and storing a slot -/

/-- Slot `s` of a buffer, as a rectangle of it. -/
abbrev slotRect (s : Fin 8) : Rect S8x8x100000 := Rect.unit (s := S8x8x100000) (slotOff s) S1x8x100000.size (slotOff_inb s)

/-- A read slot filled with `p`, whatever it held before, loads as `p`. -/
theorem load_filled (s : Fin 8) (f : (xslot s).view.ty.Contents (Elt F)) (p : FVec F S8x100000 .f32)
    (L : List (View.Piece (Elt F) S8x100000 .f32)) :
    shapeCast S8x100000 (View.readAt (Elt F) xbufM.view (slotRect s).toLoadRect
      ((xslot s).view.writes (Elt F) f (⟨Rect.whole S8x100000, p⟩ :: L))) shapeCasts_S1x8x100000_S8x100000 = p := by
  funext y
  have h := View.read_writes_cons_emb (Val := Elt F) (v := (xslot s).view) (f := f) (Rect.whole S8x100000) p L y
  rw [Rect.emb_whole_apply] at h
  exact h

/-- A write slot stored with `q`, whatever the buffer held before, is sent on as `q`. -/
theorem send_stored (s : Fin 8) (b : obufM.view.ty.Contents (Elt F)) (q : FVec F S8x100000 .f32) :
    ReadAs.same.apply (View.read (Elt F) (oslot s).view
      (View.write (Elt F) (obufM.access (slotRect s)) b (shapeCast S1x8x100000 q shapeCasts_S8x100000_S1x8x100000) Finset.univ)) = q := by
  funext y
  have h := congrFun (View.read_write_univ (Val := Elt F) (v := obufM.access (slotRect s)) b
    (shapeCast S1x8x100000 q shapeCasts_S8x100000_S1x8x100000)) (Shape.reshapeEquiv shapeCasts_S1x8x100000_S8x100000 y)
  refine Eq.trans ?_ (h.trans ?_)
  · rfl
  · show q (Shape.reshapeEquiv _ (Shape.reshapeEquiv _ y)) = q y
    rw [Shape.reshapeEquiv_reshapeEquiv, Shape.reshapeEquiv_self]

/-- What read slot `s` loads as once it has been filled from group `g`, over the earlier fills `L`. -/
abbrev loaded (c : Dev nD) (x : Arr (F := F) c) (g : Fin 16) (s : Fin 8) (L : List (View.Piece (Elt F) S8x100000 .f32)) :
    FVec F S8x100000 .f32 :=
  shapeCast S8x100000 (View.readAt (Elt F) xbufM.view (slotRect s).toLoadRect
    ((xslot s).view.writes (Elt F) (xslot s).view.junk (⟨Rect.whole S8x100000, ReadAs.same.apply ((grp g).view.read (Elt F) x)⟩ :: L)))
    shapeCasts_S1x8x100000_S8x100000

/-- What is sent back to group `g`, when read slot `s` was filled from it, its block computed, and write slot `s` stored:
    what the block computes from the group. -/
theorem sent_eq (c : Dev nD) (x : Arr (F := F) c) (g : Fin 16) (s : Fin 8) (L : List (View.Piece (Elt F) S8x100000 .f32))
    (b : obufM.view.ty.Contents (Elt F)) (w : FVec F S1x8x100000 .f32)
    (hw : w = shapeCast S1x8x100000 (blockOut (loaded c x g s L)) shapeCasts_S8x100000_S1x8x100000) :
    ReadAs.same.apply (View.read (Elt F) (oslot s).view (View.write (Elt F) (obufM.access (slotRect s)) b w Finset.univ))
      = blockOut (rowsOf c x g) := by
  subst hw
  rw [send_stored]
  exact congrArg blockOut (load_filled s _ _ L)

/-- The fill of a read slot from group `g`, as an entry of the slot's fills. -/
abbrev fill (c : Dev nD) (x : Arr (F := F) c) (g : Fin 16) : View.Piece (Elt F) S8x100000 .f32 := ⟨Rect.whole S8x100000, rowsOf c x g⟩

end Cert.Proof.Ring16

end
-- ==== Proof.Body.lean ====
/-
  The run of the kernel's body.

  From the array held group by group, every slot held and every semaphore at zero, the body runs to its end and gives the
  same back, each group now at what its block computed from it. The run is one step of the executor; what each group is
  left with is read by one lemma (`sent_eq`), the same for every group.
-/
module

public import proofs.«01_k».proof.Proof.Block

@[expose] public section

noncomputable section

namespace Cert.Proof.Ring16

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

omit [FloatOps F] in
/-- Sixteen assertions, one by one; -/
theorem each16 (Φ : Fin 16 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ
omit [FloatOps F] in
/-- eight, one by one. -/
theorem each8 (Φ : Fin 8 → sProp 𝕄) : bigSep Finset.univ Φ
    = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- Contents that agree with the array `result` on a group are as good as it there. -/
theorem grp_done (c : Dev nD) (x f : Arr (F := F) c) (g : Fin 16) (h : ∀ i ∈ (grp g).view.set, f i = result c x i) :
    (held c (grp g) f : sProp 𝕄) ⊢ held c (grp g) (result c x) :=
  entails_of_eq (pointsTo_congr h)

/-- A group written over with what was sent back to it agrees with the array `result`. -/
theorem sent_on_grp (c : Dev nD) (x : Arr (F := F) c) (g : Fin 16) (v : FVec F S8x100000 .f32) (h : v = blockOut (rowsOf c x g)) :
    ∀ i ∈ (grp g).view.set, (grp g).view.writes (Elt F) x [⟨Rect.whole S8x100000, v⟩] i = result c x i := by
  subst h; exact result_on_grp c x g

/-- Everything the body works on: the array, group by group, at `y`; the slots, at anything; and the semaphores at
    zero. -/
def gear (c : Dev nD) (y : Arr (F := F) c) : sProp 𝕄 :=
  iprop(bigSep Finset.univ (fun g => held c (grp g) y)
    ∗ bigSep Finset.univ (fun s => iprop(∃ f, held c (xslot s) f)) ∗ bigSep Finset.univ (fun s => iprop(∃ f, held c (oslot s) f))
    ∗ bigSep Finset.univ (fun s => idle c (rcell s)) ∗ bigSep Finset.univ (fun s => idle c (wcell s)))

/-- The kernel's body, on the array and the two buffers. -/
abbrev bodyProg : Prog (TpuEff nD τ sig (Elt F) Λ₀ .tc) PUnit :=
  cc0__pipeline arrM (Memref.isWhole_whole _) arrM (Memref.isWhole_whole _) xbufM (Memref.isWhole_whole _)
    obufM (Memref.isWhole_whole _) cc0_scratch2 cc0_scratch3

set_option sl_exec.parts true
set_option maxHeartbeats 0
/-- The body, from the array at `x` to the array at `result x`. -/
theorem bodyRun (c : Dev nD) (x : Arr (F := F) c) (Q : PUnit → sProp 𝕄) :
    iprop((gear c x ∗ ∃ W, owes (c : Thread nD τ) 0 W) ∗ ((gear c (result c x) ∗ ∃ W, owes (c : Thread nD τ) 0 W) -∗ Q ⟨⟩))
      ⊢ wp frame (wpE (defs₀ (F := F)) 𝒱₀ (c : Thread nD τ) none) Set.univ bodyProg Q := by
  unfold gear bodyProg
  simp only [each16, each8]
  iintro ⟨⟨⟨⟨Hg0, Hg1, Hg2, Hg3, Hg4, Hg5, Hg6, Hg7, Hg8, Hg9, Hg10, Hg11, Hg12, Hg13, Hg14, Hg15⟩,
    ⟨⟨%fx0, Hx0⟩, ⟨%fx1, Hx1⟩, ⟨%fx2, Hx2⟩, ⟨%fx3, Hx3⟩, ⟨%fx4, Hx4⟩, ⟨%fx5, Hx5⟩, ⟨%fx6, Hx6⟩, ⟨%fx7, Hx7⟩⟩,
    ⟨⟨%fo0, Ho0⟩, ⟨%fo1, Ho1⟩, ⟨%fo2, Ho2⟩, ⟨%fo3, Ho3⟩, ⟨%fo4, Ho4⟩, ⟨%fo5, Ho5⟩, ⟨%fo6, Ho6⟩, ⟨%fo7, Ho7⟩⟩,
    ⟨Hr0, Hr1, Hr2, Hr3, Hr4, Hr5, Hr6, Hr7⟩, ⟨Hw0, Hw1, Hw2, Hw3, Hw4, Hw5, Hw6, Hw7⟩⟩, ⟨%W, HO⟩⟩, Hk⟩
  sl_exec
  sl_step
  iapply Hk
  isplitl [Hg0 Hg1 Hg2 Hg3 Hg4 Hg5 Hg6 Hg7 Hg8 Hg9 Hg10 Hg11 Hg12 Hg13 Hg14 Hg15 Hx0 Hx1 Hx2 Hx3 Hx4 Hx5 Hx6 Hx7 Ho0 Ho1 Ho2 Ho3 Ho4 Ho5 Ho6 Ho7 Hr0 Hr1 Hr2 Hr3 Hr4 Hr5 Hr6 Hr7 Hw0 Hw1 Hw2 Hw3 Hw4 Hw5 Hw6 Hw7]
  · isplitl [Hg0 Hg1 Hg2 Hg3 Hg4 Hg5 Hg6 Hg7 Hg8 Hg9 Hg10 Hg11 Hg12 Hg13 Hg14 Hg15]
    · isplitl [Hg0]
      · iapply (grp_done c x ?_ 0 ?_)
        on_goal 2 => iexact Hg0
        exact sent_on_grp c x 0 _ (sent_eq c x 0 0 [] _ _ rfl)
      isplitl [Hg1]
      · iapply (grp_done c x ?_ 1 ?_)
        on_goal 2 => iexact Hg1
        exact sent_on_grp c x 1 _ (sent_eq c x 1 1 [] _ _ rfl)
      isplitl [Hg2]
      · iapply (grp_done c x ?_ 2 ?_)
        on_goal 2 => iexact Hg2
        exact sent_on_grp c x 2 _ (sent_eq c x 2 2 [] _ _ rfl)
      isplitl [Hg3]
      · iapply (grp_done c x ?_ 3 ?_)
        on_goal 2 => iexact Hg3
        exact sent_on_grp c x 3 _ (sent_eq c x 3 3 [] _ _ rfl)
      isplitl [Hg4]
      · iapply (grp_done c x ?_ 4 ?_)
        on_goal 2 => iexact Hg4
        exact sent_on_grp c x 4 _ (sent_eq c x 4 4 [] _ _ rfl)
      isplitl [Hg5]
      · iapply (grp_done c x ?_ 5 ?_)
        on_goal 2 => iexact Hg5
        exact sent_on_grp c x 5 _ (sent_eq c x 5 5 [] _ _ rfl)
      isplitl [Hg6]
      · iapply (grp_done c x ?_ 6 ?_)
        on_goal 2 => iexact Hg6
        exact sent_on_grp c x 6 _ (sent_eq c x 6 6 [] _ _ rfl)
      isplitl [Hg7]
      · iapply (grp_done c x ?_ 7 ?_)
        on_goal 2 => iexact Hg7
        exact sent_on_grp c x 7 _ (sent_eq c x 7 7 [] _ _ rfl)
      isplitl [Hg8]
      · iapply (grp_done c x ?_ 8 ?_)
        on_goal 2 => iexact Hg8
        exact sent_on_grp c x 8 _ (sent_eq c x 8 0 [fill c x 0] _ _ rfl)
      isplitl [Hg9]
      · iapply (grp_done c x ?_ 9 ?_)
        on_goal 2 => iexact Hg9
        exact sent_on_grp c x 9 _ (sent_eq c x 9 1 [fill c x 1] _ _ rfl)
      isplitl [Hg10]
      · iapply (grp_done c x ?_ 10 ?_)
        on_goal 2 => iexact Hg10
        exact sent_on_grp c x 10 _ (sent_eq c x 10 2 [fill c x 2] _ _ rfl)
      isplitl [Hg11]
      · iapply (grp_done c x ?_ 11 ?_)
        on_goal 2 => iexact Hg11
        exact sent_on_grp c x 11 _ (sent_eq c x 11 3 [fill c x 3] _ _ rfl)
      isplitl [Hg12]
      · iapply (grp_done c x ?_ 12 ?_)
        on_goal 2 => iexact Hg12
        exact sent_on_grp c x 12 _ (sent_eq c x 12 4 [fill c x 4] _ _ rfl)
      isplitl [Hg13]
      · iapply (grp_done c x ?_ 13 ?_)
        on_goal 2 => iexact Hg13
        exact sent_on_grp c x 13 _ (sent_eq c x 13 5 [fill c x 5] _ _ rfl)
      isplitl [Hg14]
      · iapply (grp_done c x ?_ 14 ?_)
        on_goal 2 => iexact Hg14
        exact sent_on_grp c x 14 _ (sent_eq c x 14 6 [fill c x 6] _ _ rfl)
      iapply (grp_done c x ?_ 15 ?_)
      on_goal 2 => iexact Hg15
      exact sent_on_grp c x 15 _ (sent_eq c x 15 7 [fill c x 7] _ _ rfl)
    isplitl [Hx0 Hx1 Hx2 Hx3 Hx4 Hx5 Hx6 Hx7]
    · isplitl [Hx0]
      · iexists _; iexact Hx0
      isplitl [Hx1]
      · iexists _; iexact Hx1
      isplitl [Hx2]
      · iexists _; iexact Hx2
      isplitl [Hx3]
      · iexists _; iexact Hx3
      isplitl [Hx4]
      · iexists _; iexact Hx4
      isplitl [Hx5]
      · iexists _; iexact Hx5
      isplitl [Hx6]
      · iexists _; iexact Hx6
      iexists _; iexact Hx7
    isplitl [Ho0 Ho1 Ho2 Ho3 Ho4 Ho5 Ho6 Ho7]
    · isplitl [Ho0]
      · iexists _; iexact Ho0
      isplitl [Ho1]
      · iexists _; iexact Ho1
      isplitl [Ho2]
      · iexists _; iexact Ho2
      isplitl [Ho3]
      · iexists _; iexact Ho3
      isplitl [Ho4]
      · iexists _; iexact Ho4
      isplitl [Ho5]
      · iexists _; iexact Ho5
      isplitl [Ho6]
      · iexists _; iexact Ho6
      iexists _; iexact Ho7
    isplitl [Hr0 Hr1 Hr2 Hr3 Hr4 Hr5 Hr6 Hr7]
    · isplitl [Hr0]
      · iexact Hr0
      isplitl [Hr1]
      · iexact Hr1
      isplitl [Hr2]
      · iexact Hr2
      isplitl [Hr3]
      · iexact Hr3
      isplitl [Hr4]
      · iexact Hr4
      isplitl [Hr5]
      · iexact Hr5
      isplitl [Hr6]
      · iexact Hr6
      iexact Hr7
    isplitl [Hw0]
    · iexact Hw0
    isplitl [Hw1]
    · iexact Hw1
    isplitl [Hw2]
    · iexact Hw2
    isplitl [Hw3]
    · iexact Hw3
    isplitl [Hw4]
    · iexact Hw4
    isplitl [Hw5]
    · iexact Hw5
    isplitl [Hw6]
    · iexact Hw6
    iexact Hw7
  iexists _; iexact HO

end Cert.Proof.Ring16

end
-- ==== Proof.Launch.lean ====
/-
  The launch: what the whole program leaves.

  The program copies its argument to the array and launches the kernel once. At the launch the array splits into its
  sixteen groups and each buffer into its eight slots; after the body they join again. So the program ends with its
  argument as it was, the array at `result` of the argument, and every semaphore at zero.
-/
module

public import proofs.«01_k».proof.Proof.Body

@[expose] public section

noncomputable section

namespace Cert.Proof.Ring16

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

variable (m : (ℓ : Loc nD τ sig) → Buf (Elt F) ℓ) (ρ : Dev nD → PrngReg)

/-! ## The array is its sixteen groups, a buffer its eight slots -/

abbrev grpSet (g : Fin 16) : Finset S128x100000.Idx := (Rect.unit (s := S128x100000) (grpOff g) S8x100000.size (grpOff_inb g)).set
abbrev slotSet (s : Fin 8) : Finset S8x8x100000.Idx := (slotRect s).set

theorem grpSet_disjoint : ∀ g g' : Fin 16, g ≠ g' → Disjoint (grpSet g) (grpSet g') :=
  Ring.lead_disjoint (s := S128x100000) 0 8 grpOff S8x100000.size grpOff_inb (fun _ => rfl) rfl
theorem grpSet_cover : (Finset.univ : Finset (Fin 16)).biUnion grpSet = Finset.univ :=
  Ring.lead_cover (s := S128x100000) 0 8 grpOff S8x100000.size grpOff_inb (fun _ => rfl)
    (fun _ a ha => by fin_cases a; exacts [absurd rfl ha, rfl]) rfl (fun a ha => by fin_cases a; exacts [absurd rfl ha, rfl]) rfl
theorem slotSet_disjoint : ∀ s s' : Fin 8, s ≠ s' → Disjoint (slotSet s) (slotSet s') :=
  Ring.lead_disjoint (s := S8x8x100000) 0 1 slotOff S1x8x100000.size slotOff_inb (fun b => (Nat.one_mul _).symm) rfl
theorem slotSet_cover : (Finset.univ : Finset (Fin 8)).biUnion slotSet = Finset.univ :=
  Ring.lead_cover (s := S8x8x100000) 0 1 slotOff S1x8x100000.size slotOff_inb (fun b => (Nat.one_mul _).symm)
    (fun _ a ha => by fin_cases a; exacts [absurd rfl ha, rfl, rfl]) rfl (fun a ha => by fin_cases a; exacts [absurd rfl ha, rfl, rfl]) rfl

theorem grp_set (g : Fin 16) : (grp g).view.set = grpSet g := View.set_slice_whole _ _
theorem xslot_set (s : Fin 8) : (xslot s).view.set = slotSet s := (View.set_reshape _ _).trans (View.set_slice_whole _ _)
theorem oslot_set (s : Fin 8) : (oslot s).view.set = slotSet s := (View.set_reshape _ _).trans (View.set_slice_whole _ _)

/-- The array whole is its groups. -/
theorem arr_eq (c : Dev nD) (f : Arr (F := F) c) :
    (((c : Thread nD τ).loc main_v0) ↦{fullShare} f : sProp 𝕄) = bigSep Finset.univ fun g => held c (grp g) f := by
  rw [Ring.pointsTo_blocks (ℓ := (c : Thread nD τ).loc main_v0) grpSet grpSet_disjoint grpSet_cover]
  exact bigSep_congr fun g _ => by rw [← grp_set]

theorem xslot_eq (c : Dev nD) (s : Fin 8) (f) :
    held c (xslot s) f = (((c : Thread nD τ).loc cc0_scratch0) ↦[slotSet s]{fullShare} f : sProp 𝕄) :=
  congrArg (fun S => (_ ↦[S]{fullShare} f : sProp 𝕄)) (xslot_set s)
theorem oslot_eq (c : Dev nD) (s : Fin 8) (f) :
    held c (oslot s) f = (((c : Thread nD τ).loc cc0_scratch1) ↦[slotSet s]{fullShare} f : sProp 𝕄) :=
  congrArg (fun S => (_ ↦[S]{fullShare} f : sProp 𝕄)) (oslot_set s)

/-- A buffer whole, at anything, is its slots, each at anything (`P s` the holding of slot `s`); -/
theorem buf_split {ℓ : Loc nD τ sig} (J : Fin 8 → Finset (Idx ℓ)) (hd : ∀ s s', s ≠ s' → Disjoint (J s) (J s'))
    (hc : Finset.univ.biUnion J = Finset.univ) (P : Fin 8 → Buf (Elt F) ℓ → sProp 𝕄) (hP : ∀ s f, P s f = (ℓ ↦[J s]{fullShare} f : sProp 𝕄)) :
    iprop(∃ f : Buf (Elt F) ℓ, ℓ ↦{fullShare} f) ⊢ (bigSep Finset.univ (fun s => iprop(∃ f, P s f)) : sProp 𝕄) := by
  iintro ⟨%f, H⟩
  ihave H' := (entails_of_eq (Ring.pointsTo_blocks (Ix := Unit) (Name := ℕ) (U := UU nD τ) (Lvl := ℕ) (q := fullShare) J hd hc f)) $$ H
  iapply (show bigSep Finset.univ (fun s => (ℓ ↦[J s]{fullShare} f : sProp 𝕄)) ⊢ bigSep Finset.univ (fun s => iprop(∃ f, P s f)) from
    bigSep_mono fun s _ => by
      show (ℓ ↦[J s]{fullShare} f : sProp 𝕄) ⊢ iprop(∃ f, P s f)
      iintro H; iexists f; iapply (entails_of_eq (hP s f).symm); iexact H)
  iexact H'
/-- and back. -/
theorem buf_join {ℓ : Loc nD τ sig} (f₀ : Buf (Elt F) ℓ) (J : Fin 8 → Finset (Idx ℓ)) (hd : ∀ s s', s ≠ s' → Disjoint (J s) (J s'))
    (hc : Finset.univ.biUnion J = Finset.univ) (P : Fin 8 → Buf (Elt F) ℓ → sProp 𝕄) (hP : ∀ s f, P s f = (ℓ ↦[J s]{fullShare} f : sProp 𝕄)) :
    bigSep Finset.univ (fun s => iprop(∃ f, P s f)) ⊢ (iprop(∃ f : Buf (Elt F) ℓ, ℓ ↦{fullShare} f) : sProp 𝕄) := by
  simp only [hP]
  exact Ring.pointsTo_blocks_join_exists J hd hc f₀

/-! ## The kernel's own semaphores -/

abbrev osem : Fin 16 → SemLoc sig := fun k => .dma k
theorem ownSemFacts : Pipeline.OwnSemFacts (cfgs 0).spec osem := by decide

omit [FloatOps F] in
/-- Sixteen assertions, one by one, are the first eight and the last eight. -/
theorem halves (P : Fin 16 → sProp 𝕄) : bigSep Finset.univ P
    = iprop(bigSep Finset.univ (fun s : Fin 8 => P ⟨s.val, by omega⟩) ∗ bigSep Finset.univ (fun s : Fin 8 => P ⟨8 + s.val, by omega⟩)) := by
  have assoc : ∀ A B C : sProp 𝕄, iprop((A ∗ B) ∗ C) = iprop(A ∗ B ∗ C) := fun A B C => equiv_iff.mp ⟨BI.sep_assoc, BI.sep_assoc'⟩
  rw [each16, each8, each8]
  simp only [assoc]
  rfl

omit [FloatOps F] in
/-- They are the read slots' and the write slots'. -/
theorem ownSems0_eq (c : Dev nD) : (Pipeline.ownSems0 (Ix := Unit) (Name := ℕ) (U := UU nD τ) (Lvl := ℕ) (Val := Elt F) (τ := τ) osem c : sProp 𝕄)
    = iprop(bigSep Finset.univ (fun s => idle c (rcell s)) ∗ bigSep Finset.univ (fun s => idle c (wcell s))) := by
  unfold Pipeline.ownSems0
  rw [halves]
  rfl

/-! ## The kernel's run as one step of its launch -/

/-- The array as the kernel finds it. -/
abbrev arr0 (c : Dev nD) : Arr (F := F) c := V m c main_v0

/-- Before the body everything it works on, the array as found; after it, the array at `result`. -/
def Φ (c : Dev nD) (t : Fin (cfg0.N + 1)) : sProp 𝕄 :=
  if t.val = 0 then gear c (arr0 m c) else gear c (result c (arr0 m c))

def dats (_ : Fin 1) (c : Dev nD) : Dat τ (Elt F) Unit ℕ (UU nD τ) ℕ cfg0 c where
  A w := w.elim0
  after w t := w.elim0
  Φ t := Φ m c t
  q _ := fullShare
  owed _ := 0

theorem defs₀_row (t : Fin cfg0.N) : (defs₀ (F := F)) .tc cfg0.body (cfg0.bodyArgs t (cfg0.slots t)) = bodyProg := by
  unfold defs₀; rw [Defs.onTc_tc]

theorem Φ_before (c : Dev nD) (t : Fin cfg0.N) : (dats m 0 c).Φ t.castSucc = gear c (arr0 m c) := by
  have h : t.val = 0 := by have := t.isLt; have e : cfg0.N = 1 := N_0; omega
  show Φ m c t.castSucc = _
  unfold Φ; rw [if_pos (by exact h)]
theorem Φ_after (c : Dev nD) (t : Fin cfg0.N) : (dats m 0 c).Φ t.succ = gear c (result c (arr0 m c)) := by
  show Φ m c t.succ = _
  unfold Φ; rw [if_neg (by simp)]

theorem Φ_first (c : Dev nD) : (dats m 0 c).Φ 0 = gear c (arr0 m c) := Φ_before m c ⟨0, by decide⟩
theorem Φ_last (c : Dev nD) : (dats m 0 c).Φ (Fin.last cfg0.N) = gear c (result c (arr0 m c)) := Φ_after m c ⟨0, by decide⟩

/-- The kernel has no staged window: nothing is held for one. -/
theorem no_windows (Φ : Fin cfg0.W → sProp 𝕄) : bigSep Finset.univ Φ = (BI.emp : sProp 𝕄) :=
  bigSep_univ_eq_bigSepL [] (by decide) (by decide) Φ

set_option backward.isDefEq.respectTransparency.types false in
theorem body_obligation (c : Dev nD) : BodyObligation (dats (F := F) m 0 c) (defs₀ (F := F)) 𝒱₀ () Set.univ := fun t => by
  rw [no_windows, no_windows, defs₀_row, Φ_before, Φ_after]
  unfold Dat.owesAt Pipeline.owesWithin
  rw [show (dats m 0 c).owed t.castSucc = 0 from rfl, show (dats m 0 c).owed t.succ = 0 from rfl]
  iintro ⟨HG, ⟨%W, -, HW⟩, -⟩
  iapply (bodyRun c (arr0 m c))
  isplitl [HG HW]
  · isplitl [HG]; · iexact HG
    iexists W; iexact HW
  · iintro ⟨HG, ⟨%W', HW⟩⟩
    isplitl [HG]; · iexact HG
    isplitl [HW]
    · iexists W'; isplitr; · ipureintro; exact fun _ _ => Or.inl trivial
      iexact HW
    iempintro

/-! ## The run -/

def intoΦ (c : Dev nD) : sProp 𝕄 :=
  iprop((((c : Thread nD τ).loc main_v0) ↦{fullShare} arr0 m c) ∗ Pipeline.ownSems0 osem c)
def outOfΦ (c : Dev nD) : sProp 𝕄 := ((c : Thread nD τ).loc main_v0) ↦{fullShare} result c (arr0 m c)
def besides (c : Dev nD) : sProp 𝕄 := ((c : Thread nD τ).loc main_arg0) ↦{fullShare} V m c main_arg0
def u₀ : UU nD τ := (initOf (Pipeline.cells cfgs Cert.KernelIdeal.Gen.cellOf_inj) (Pipeline.launchToks cfgs Cert.KernelIdeal.Gen.cellOf_inj), 1)
def QY (c : Dev nD) (s : MemSt nD τ sig (Elt F)) : Prop :=
  s.mem ((c : Thread nD τ).loc main_arg0) = V m c main_arg0 ∧ s.mem ((c : Thread nD τ).loc main_v0) = result c (arr0 m c)

set_option backward.isDefEq.respectTransparency.types false in
/-- From any memory with every semaphore at zero, every run of the program ends, with the argument as the kernel found it,
    the array at `result` of what the kernel found there, and every semaphore at zero. -/
theorem run_main : θ_run defs (onTc (τ := τ) (main (F := F))) (s₀ m ρ) (fun r => (∀ c, QY m c r.2) ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := Pipeline.hmain_prefix cfgs 0 defs₀ 𝒱₀ m main hostOps0 hostOps0_sub hostOps0_fresh main_chain)
    (hA := fun _ w => w.elim0)
    (X := intoΦ m) (Y := outOfΦ m) (Z := besides m)
    (hX := fun c => by
      rw [unscopedRest0_eq]
      unfold intoΦ besides
      iintro ⟨⟨H0, H1⟩, HS, -, -, -⟩; imodintro
      isplitl [H1 HS]
      · isplitl [H1]; · iexact H1
        iexact HS
      iexact H0)
    (hin := fun c => by
      rw [scopedRest0_eq, Φ_first]
      unfold intoΦ gear; rw [ownSems0_eq, arr_eq]
      iintro ⟨⟨H, HR, HW⟩, Hx, Ho⟩
      isplitl [H]; · iexact H
      isplitl [Hx]
      · iapply (buf_split (ℓ := (c : Thread nD τ).loc cc0_scratch0) slotSet slotSet_disjoint slotSet_cover _ (xslot_eq c)); iexact Hx
      isplitl [Ho]
      · iapply (buf_split (ℓ := (c : Thread nD τ).loc cc0_scratch1) slotSet slotSet_disjoint slotSet_cover _ (oslot_eq c)); iexact Ho
      isplitl [HR]; · iexact HR
      iexact HW)
    (hout := fun c => by
      rw [scopedRest0_eq, Φ_last, ownSems0_eq]
      unfold outOfΦ gear; rw [arr_eq]
      iintro ⟨H, Hx, Ho, HR, HW⟩
      isplitl [H]; · iexact H
      isplitl [HR HW]
      · isplitl [HR]; · iexact HR
        iexact HW
      isplitl [Hx]
      · iapply (buf_join (ℓ := (c : Thread nD τ).loc cc0_scratch0) (m _) slotSet slotSet_disjoint slotSet_cover _ (xslot_eq c)); iexact Hx
      · iapply (buf_join (ℓ := (c : Thread nD τ).loc cc0_scratch1) (m _) slotSet slotSet_disjoint slotSet_cover _ (oslot_eq c)); iexact Ho)
    (QY := QY m)
    (hY := fun c s' => by
      unfold outOfΦ besides
      iintro ⟨H1, H0, HSI⟩
      icombine HSI H0 gives %h0
      icombine HSI H1 gives %h1
      imodintro
      isplitr; · ipureintro; exact ⟨Buf.eq_of_forall_mem_univ h0, Buf.eq_of_forall_mem_univ h1⟩
      iexact HSI)
    (hQ := fun _ hh hz => ⟨fun c => (hh c).2, hz⟩)

/-! ## In terms of the argument -/

/-- The kernel finds the array at the argument, which the program copied there. -/
theorem arr0_eq (c : Dev nD) : arr0 m c = m ((c : Thread nD τ).loc main_arg0) := by
  unfold arr0 V
  rw [hostOps0, StableHlo.after_cons, StableHlo.after_nil]
  exact (StableHlo.unary_result main_arg0 main_v0 id _ _ _).trans rfl

/-- From any memory with every semaphore at zero, every run of the program ends with its argument as it was, the array at
    `result` of the argument, and every semaphore at zero. -/
theorem run_result : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_v0) = result c (m ((c.tc : Thread nD τ).loc main_arg0))) ∧ r.2.sem = fun _ => 0) :=
  (θ_run defs _ _).mono (fun _ h => ⟨fun c => ⟨(h.1 c).1.trans (V_main_arg0 m c),
    (h.1 c).2.trans (congrArg (result c) (arr0_eq m c))⟩, h.2⟩) (run_main m ρ)

end Cert.Proof.Ring16

end
-- ==== Proof.ReferenceValue.lean ====
/-
  What the reference computes, over the extended reals.

  At `(i, j)` its result is the argument's element less the logarithm of the sum of the exponentials of the argument's
  row `i`: the division by the temperature, which is one, changes nothing. What the precondition says of the argument, that
  every element is below `⊤`, is read here too.
-/
module

public import proofs.«01_k».proof.Proof.Gen.ReferenceIdeal.Run
public import proofs.«01_k».proof.Proof.Gen.Pre_below_infinity
public import Idealize.ShloMosaic.Lib.Pointwise

@[expose] public section

noncomputable section

namespace Cert.Proof.Ref

open Cert.ReferenceIdeal Cert.ReferenceIdeal.Gen
open Idealize.ShloMosaic Idealize.SL.Sem

/-- The argument divided by the temperature. -/
def scaled (x : FVec Ideal S128x100000 .f32) : FVec Ideal S128x100000 .f32 :=
  Host.divf x (broadcastInDim S128x100000 ![] bcast_S_S128x100000 (constant S_ .f32 0x3F800000#32))

/-- The reference's result: the scaled argument less the logarithm of each row's sum of exponentials. -/
def out (x : FVec Ideal S128x100000 .f32) : FVec Ideal S128x100000 .f32 :=
  subf (scaled x) (broadcastInDim S128x100000 ![0, 1] bcast_S128x1_S128x100000_0_1 (Host.log (broadcastInDim S128x1 ![0]
    bcast_S128_S128x1_0 (Host.reduceAdd (Host.exp (scaled x)) (constant S_ .f32 0x00000000#32) reducesTo_S128x100000_S128_d1 h_S_))))

/-- From any memory with every semaphore at zero, every run of the reference ends with its result at `out` of its argument,
    and its argument as it was. -/
theorem run_out (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v7) = out (m ((c.tc : Thread nD τ).loc main_arg0))
      ∧ r.2.mem ((c.tc : Thread nD τ).loc main_arg0) = m ((c.tc : Thread nD τ).loc main_arg0)) :=
  Value.run m ρ

/-- A quotient by one is the dividend. -/
theorem div_one (y : EReal) : Ideal.div y 1 = y := by simp [Ideal.div]

/-- The scaled argument is the argument. -/
theorem scaled_apply (x : FVec Ideal S128x100000 .f32) (i : S128x100000.Idx) : scaled x i = x i := by
  pointwise [scaled]
  exact div_one _

/-- The reference's result at `(i, j)`: the element less the logarithm of the sum of the exponentials of its row. -/
theorem out_apply (x : FVec Ideal S128x100000 .f32) (i : S128x100000.Idx) :
    out x i = x (ix2 (i 0) (i 1)) - Ideal.log (∑ l : Fin 100000, Ideal.exp (x (ix2 (i 0) l))) := by
  have e : out x i = scaled x (ix2 (i 0) (i 1)) - Ideal.log (∑ l : Fin 100000, Ideal.exp (scaled x (ix2 (i 0) l))) := by
    pointwise [out]
  simp only [e, scaled_apply]

/-- The precondition says of an array that every element of it is below `⊤`. -/
theorem lt_top_of_pre (x : FVec Ideal S128x100000 .f32) (h : Cert.Pre_below_infinity.fn (F := Ideal) x = fun _ => 1#1)
    (i : S128x100000.Idx) : x i < ⊤ := by
  have hinf : Ideal.ofBits .f32 0x7F800000#32 = ⊤ := by simp [Ideal.ofBits, Ideal.ieee]
  have hi := congrFun h i
  revert hi
  pointwise [Cert.Pre_below_infinity.fn]
  rw [hinf]
  intro hi
  by_contra hn
  simp [hn] at hi

end Cert.Proof.Ref

end
-- ==== Proof.Frames.lean ====
/-
  The frames: each program runs to its end, leaves its argument as it was and every semaphore at zero.

  The run of the kernel is known over any floats. The kernel as printed and the kernel read over extended reals are one
  program text, so the same run serves both: for the one over words of bits, for the other over extended reals.
-/
module

public import proofs.«01_k».proof.Defs
public import proofs.«01_k».proof.Proof.Gen.Kernel
public import proofs.«01_k».proof.Proof.Launch
public import proofs.«01_k».proof.Proof.ReferenceValue
public import Idealize.ShloMosaic.Lib.Quiescent

@[expose] public section

noncomputable section

namespace Cert.Proof

open Idealize.ShloMosaic Idealize.SL.Sem

/-- The kernel's frame. -/
theorem frame_kernel : Cert.quiescent_Kernel := fun m g _ =>
  (θ_run (Cert.KernelIdeal.defs (F := Bits)) _ _).mono (fun _ h => ⟨fun c => (h.1 c).1, h.2⟩) (Ring16.run_result (F := Bits) m g)

/-- The frame of the kernel over extended reals. -/
theorem frame_kernelIdeal : Cert.quiescent_KernelIdeal := fun m g _ =>
  (θ_run (Cert.KernelIdeal.defs (F := Ideal)) _ _).mono (fun _ h => ⟨fun c => (h.1 c).1, h.2⟩) (Ring16.run_result (F := Ideal) m g)

/-- The same frame where the precondition holds. -/
theorem frame_kernelIdeal_pre : Cert.quiescent_KernelIdeal_pre_below_infinity := fun m g _ => frame_kernelIdeal m g trivial

/-- The reference's frame: it declares no semaphore. -/
theorem frame_reference : Cert.quiescent_ReferenceIdeal := fun m g _ =>
  (θ_run (Cert.ReferenceIdeal.defs (F := Ideal)) _ _).mono
    (fun r h => ⟨fun c => (h c).2, sem_eq_zero_of_no_sems (by decide) r.2⟩) (Ref.run_out m g)

/-- The same frame where the precondition holds. -/
theorem frame_reference_pre : Cert.quiescent_ReferenceIdeal_pre_below_infinity := fun m g _ => frame_reference m g trivial

end Cert.Proof

end
-- ==== Proof.RowMath.lean ====
/-
  One row, as extended reals.

  The kernel shifts a row by its greatest element before it exponentiates, the reference does not. Here is why that makes
  no difference as long as no element is `⊤`: for any bound `M` of the row that is not `⊤` itself, `M` plus the logarithm of
  the sum of the shifted exponentials is the logarithm of the sum of the exponentials, or else the whole row is `⊥`, and
  both differences are `⊥`. A sum over a row is also cut here into equal pieces and a last one.
-/
module

public import Idealize.ShloMosaic.PureOps.Ideal

@[expose] public section

noncomputable section

namespace Cert.Proof.Row

open Idealize.ShloMosaic

/-- A sum over `N = a * b + c` places is the sum over `a` pieces of `b` places each, plus the sum over the last `c`. -/
theorem sum_pieces {a b c N : ℕ} (h : a * b + c = N) (f : Fin N → EReal) (hp : ∀ (k : Fin a) (l : Fin b), b * k.val + l.val < N)
    (hl : ∀ l : Fin c, a * b + l.val < N) :
    ∑ j, f j = (∑ k : Fin a, ∑ l : Fin b, f ⟨b * k.val + l.val, hp k l⟩) + ∑ l : Fin c, f ⟨a * b + l.val, hl l⟩ := by
  subst h
  rw [Fin.sum_univ_add, ← Fintype.sum_prod_type']
  refine congrArg₂ (· + ·) (Fintype.sum_equiv finProdFinEquiv _ _ fun p => ?_).symm (Finset.sum_congr rfl fun l _ => ?_)
  · exact congrArg f (Fin.ext (by simp [finProdFinEquiv, add_comm]))
  · exact congrArg f (Fin.ext rfl)

/-- A sum of reals is the same sum taken as extended reals. -/
theorem coe_sum {ι : Type} (s : Finset ι) (e : ι → ℝ) : ((∑ j ∈ s, e j : ℝ) : EReal) = ∑ j ∈ s, (e j : EReal) := by
  classical
  induction s using Finset.induction_on with
  | empty => rfl
  | insert a s ha ih => rw [Finset.sum_insert ha, Finset.sum_insert ha, EReal.coe_add, ih]

/-- An extended real below `⊤` has an exponential that is a real, and a shift by a real scales it. -/
theorem exp_shift (y : EReal) (hy : y ≠ ⊤) (r : ℝ) :
    ∃ e : ℝ, Ideal.exp y = (e : EReal) ∧ Ideal.exp (y - (r : EReal)) = ((e * Real.exp (-r) : ℝ) : EReal) := by
  induction y with
  | bot => exact ⟨0, by simp, by simp⟩
  | coe x =>
    refine ⟨Real.exp x, Ideal.exp_coe x, ?_⟩
    rw [← EReal.coe_sub, Ideal.exp_coe, sub_eq_add_neg, Real.exp_add]
  | top => exact absurd rfl hy

/-- The logarithm of a real scaled by `exp (-r)` is `r` less, so adding `r` back gives the logarithm of the real. -/
theorem add_log_scaled (S r : ℝ) : (r : EReal) + Ideal.log ((S * Real.exp (-r) : ℝ) : EReal) = Ideal.log (S : EReal) := by
  rw [Ideal.log_coe, Ideal.log_coe]
  have hpos := Real.exp_pos (-r)
  by_cases hS : S ≤ 0
  · rw [if_pos (mul_nonpos_of_nonpos_of_nonneg hS hpos.le), if_pos hS, EReal.add_bot]
  · have hS' : 0 < S := lt_of_not_ge hS
    rw [if_neg (not_le.mpr (mul_pos hS' hpos)), if_neg hS, Real.log_mul hS'.ne' hpos.ne', Real.log_exp, ← EReal.coe_add]
    congr 1
    ring

/-- An element of a row less the shifted log-sum-exp is the element less the plain one, for any shift `M ≠ ⊤` that bounds
    the row. -/
theorem sub_shifted {ι : Type} [Fintype ι] (f : ι → EReal) (M : EReal) (hM : ∀ j, f j ≤ M) (hT : M ≠ ⊤) (i : ι) :
    f i - (M + Ideal.log (∑ j, Ideal.exp (f j - M))) = f i - Ideal.log (∑ j, Ideal.exp (f j)) := by
  induction M with
  | top => exact absurd rfl hT
  | bot =>
    have hi : f i = ⊥ := le_bot_iff.mp (hM i)
    rw [hi, sub_eq_add_neg, sub_eq_add_neg, EReal.bot_add, EReal.bot_add]
  | coe r =>
    choose e he hs using fun j => exp_shift (f j) (fun h => EReal.coe_ne_top r (top_le_iff.mp (h ▸ hM j))) r
    have h1 : ∑ j, Ideal.exp (f j) = ((∑ j, e j : ℝ) : EReal) := by
      rw [Finset.sum_congr rfl fun j _ => he j, coe_sum]
    have h2 : ∑ j, Ideal.exp (f j - (r : EReal)) = (((∑ j, e j) * Real.exp (-r) : ℝ) : EReal) := by
      rw [Finset.sum_congr rfl fun j _ => hs j, ← coe_sum, Finset.sum_mul]
    rw [h1, h2, add_log_scaled]

end Cert.Proof.Row

end
-- ==== Proof.BlockValue.lean ====
/-
  What one block computes, over the extended reals.

  Element `(r, j)` of a block's result is the row's element `j` less the logarithm of the sum of the exponentials of the
  whole row, provided no element of the row is `⊤`. The row's greatest element enters only as a bound of the row that is not
  `⊤` either.
-/
module

public import proofs.«01_k».proof.Proof.Block
public import proofs.«01_k».proof.Proof.RowMath
public import Idealize.ShloMosaic.Lib.Pointwise

@[expose] public section

noncomputable section

namespace Cert.Proof.Ring16

open Cert.KernelIdeal Cert.KernelIdeal.Gen
open Idealize.ShloMosaic
open Idealize.ShloMosaic.TcCoe

variable (x : FVec Ideal S8x100000 .f32) (m : FVec Ideal S8x1 .f32) (r : Fin 8)

/-- Place `l` of piece `k` is a column of the row. -/
theorem col_piece (k : Fin 7) (l : Fin 12544) : 12544 * k.val + l.val < 100000 := by omega
/-- Place `l` of the last piece is a column of the row. -/
theorem col_last (l : Fin 12192) : 7 * 12544 + l.val < 100000 := by omega

/-! ## The greatest element -/

/-- Every column lies in one of the seven pieces or in the last piece. -/
theorem col_cases (j : Fin 100000) :
    (∃ (k : Fin 7) (l : Fin 12544), j = ⟨12544 * k.val + l.val, col_piece k l⟩) ∨ ∃ l : Fin 12192, j = ⟨7 * 12544 + l.val, col_last l⟩ := by
  by_cases h : j.val < 7 * 12544
  · exact .inl ⟨⟨j.val / 12544, by omega⟩, ⟨j.val % 12544, by omega⟩, Fin.ext (by simp only; omega)⟩
  · exact .inr ⟨⟨j.val - 7 * 12544, by omega⟩, Fin.ext (by simp only; omega)⟩

/-- A piece's greatest element is the greatest of its elements, from `-∞` up. -/
theorem pieceMax_apply (k : Fin 7) : pieceMax x k (ix2 r (0 : Fin 1))
    = Finset.univ.fold max (Ideal.ofBits .f32 0xFF800000#32) fun l : Fin 12544 => x (ix2 r (⟨12544 * k.val + l.val, col_piece k l⟩ : Fin 100000)) := by
  pointwise [pieceMax, piece]

/-- The last piece's greatest element likewise. -/
theorem lastMax_apply : lastMax x (ix2 r (0 : Fin 1))
    = Finset.univ.fold max (Ideal.ofBits .f32 0xFF800000#32) fun l : Fin 12192 => x (ix2 r (⟨7 * 12544 + l.val, col_last l⟩ : Fin 100000)) := by
  pointwise [lastMax, lastPiece]

/-- The row's greatest element is the greatest of the eight pieces' greatest elements. -/
theorem rowMax_apply : rowMax x (ix2 r (0 : Fin 1))
    = max (Finset.univ.sup fun k => pieceMax x k (ix2 r (0 : Fin 1))) (lastMax x (ix2 r (0 : Fin 1))) := by
  have h : (Finset.univ : Finset (Fin 7)) = {0, 1, 2, 3, 4, 5, 6} := by decide
  pointwise [rowMax]
  rw [h]
  simp [max_assoc]

/-- No element of the row is above the row's greatest element. -/
theorem le_rowMax (j : Fin 100000) : x (ix2 r j) ≤ rowMax x (ix2 r (0 : Fin 1)) := by
  rw [rowMax_apply]
  obtain ⟨k, l, rfl⟩ | ⟨l, rfl⟩ := col_cases j
  · refine le_max_of_le_left (le_trans ?_ (Finset.le_sup (f := fun k => pieceMax x k (ix2 r (0 : Fin 1))) (Finset.mem_univ k)))
    rw [pieceMax_apply]
    exact (Finset.le_fold_max _).mpr (.inr ⟨l, Finset.mem_univ l, le_rfl⟩)
  · refine le_max_of_le_right ?_
    rw [lastMax_apply]
    exact (Finset.le_fold_max _).mpr (.inr ⟨l, Finset.mem_univ l, le_rfl⟩)

/-- The word a maximum starts from denotes `-∞`. -/
theorem negInf : Ideal.ofBits .f32 0xFF800000#32 = ⊥ := by simp [Ideal.ofBits, Ideal.ieee]

/-- If every element of the row is below `⊤`, so is the row's greatest element. -/
theorem rowMax_lt (h : ∀ j, x (ix2 r j) < ⊤) : rowMax x (ix2 r (0 : Fin 1)) < ⊤ := by
  rw [rowMax_apply]
  refine max_lt ((Finset.sup_lt_iff bot_lt_top).mpr fun k _ => ?_) ?_
  · rw [pieceMax_apply, negInf]
    exact (Finset.fold_max_lt _).mpr ⟨bot_lt_top, fun l _ => h _⟩
  · rw [lastMax_apply, negInf]
    exact (Finset.fold_max_lt _).mpr ⟨bot_lt_top, fun l _ => h _⟩

/-! ## The sum -/

/-- A piece's sum is the sum over its columns of the shifted exponentials. -/
theorem pieceSum_apply (k : Fin 7) : pieceSum x m k (ix2 r (0 : Fin 1))
    = ∑ l : Fin 12544, Ideal.exp (x (ix2 r (⟨12544 * k.val + l.val, col_piece k l⟩ : Fin 100000)) - m (ix2 r (0 : Fin 1))) := by
  pointwise [pieceSum, piece]

/-- The last piece's sum likewise. -/
theorem lastSum_apply : lastSum x m (ix2 r (0 : Fin 1))
    = ∑ l : Fin 12192, Ideal.exp (x (ix2 r (⟨7 * 12544 + l.val, col_last l⟩ : Fin 100000)) - m (ix2 r (0 : Fin 1))) := by
  pointwise [lastSum, lastPiece]

/-- The row's sum is the sum over all its columns of the shifted exponentials. -/
theorem rowSum_apply : rowSum x m (ix2 r (0 : Fin 1)) = ∑ j : Fin 100000, Ideal.exp (x (ix2 r j) - m (ix2 r (0 : Fin 1))) := by
  have h : rowSum x m (ix2 r (0 : Fin 1)) = (∑ k, pieceSum x m k (ix2 r (0 : Fin 1))) + lastSum x m (ix2 r (0 : Fin 1)) := by
    pointwise [rowSum]
    rw [Fin.sum_univ_seven]
  rw [h, lastSum_apply, Finset.sum_congr rfl fun k _ => pieceSum_apply x m r k]
  exact (Row.sum_pieces (a := 7) (b := 12544) (c := 12192) (by norm_num)
    (fun j : Fin 100000 => Ideal.exp (x (ix2 r j) - m (ix2 r (0 : Fin 1)))) col_piece col_last).symm

/-! ## The block -/

/-- A block's result at `(r, j)`, if no element of row `r` is `⊤`: the element less the logarithm of the sum of the
    exponentials of the row. -/
theorem blockOut_apply (h : ∀ j, x (ix2 r j) < ⊤) (j : Fin 100000) :
    blockOut x (ix2 r j) = x (ix2 r j) - Ideal.log (∑ l : Fin 100000, Ideal.exp (x (ix2 r l))) := by
  have e : blockOut x (ix2 r j) = x (ix2 r j) - (rowMax x (ix2 r (0 : Fin 1)) + Ideal.log (rowSum x (rowMax x) (ix2 r (0 : Fin 1)))) := by
    pointwise [blockOut]
  rw [e, rowSum_apply]
  exact Row.sub_shifted (fun j => x (ix2 r j)) _ (le_rowMax x r) (rowMax_lt x r h).ne j

end Cert.Proof.Ring16

end
-- ==== Proof.KernelValue.lean ====
/-
  What the array holds at the end, over the extended reals.

  Row `i` of the array is row `i % 8` of the group `i / 8`, so what a block computes from its eight rows gives the whole
  array: at `(i, j)` the argument's element less the logarithm of the sum of the exponentials of the argument's row `i`,
  provided no element of the argument is `⊤`.
-/
module

public import proofs.«01_k».proof.Proof.BlockValue

@[expose] public section

noncomputable section

namespace Cert.Proof.Ring16

open Cert.KernelIdeal Cert.KernelIdeal.Gen
open Idealize.ShloMosaic
open Idealize.ShloMosaic.TcCoe

/-- Element `(i % 8, l)` of the group row `i` lies in is the array's element `(i, l)`. -/
theorem rowsOf_apply (c : Dev nD) (y : FVec Ideal S128x100000 .f32) (i : S128x100000.Idx) (l : Fin 100000) :
    rowsOf (F := Ideal) c y (rowGroup i) (ix2 (⟨(i 0).val % 8, Nat.mod_lt _ (by decide)⟩ : Fin 8) l)
      = y (ix2 (i 0) l) := by
  have h0 := Rect.emb_apply (Rect.unit (s := S128x100000) (grpOff (rowGroup i)) S8x100000.size (grpOff_inb (rowGroup i)))
    (ix2 (⟨(i 0).val % 8, Nat.mod_lt _ (by decide)⟩ : Fin 8) l) 0
  have h1 := Rect.emb_apply (Rect.unit (s := S128x100000) (grpOff (rowGroup i)) S8x100000.size (grpOff_inb (rowGroup i)))
    (ix2 (⟨(i 0).val % 8, Nat.mod_lt _ (by decide)⟩ : Fin 8) l) 1
  refine congrArg y (funext fun a => Fin.ext ?_)
  fin_cases a
  · refine h0.trans ?_
    show 8 * ((i 0).val / 8) + 1 * ((i 0).val % 8) = (i 0).val
    omega
  · refine h1.trans ?_
    show 0 + 1 * l.val = l.val
    omega

/-- The array the kernel leaves when its argument is `y`. -/
def kernelOut (c : Dev nD) (y : FVec Ideal S128x100000 .f32) : FVec Ideal S128x100000 .f32 := result (F := Ideal) c y

/-- The final array at `(i, j)`, if no element of the argument `y` is `⊤`: the element less the logarithm of the sum of the
    exponentials of its row. -/
theorem kernelOut_apply (c : Dev nD) (y : FVec Ideal S128x100000 .f32) (h : ∀ i, y i < ⊤) (i : S128x100000.Idx) :
    kernelOut c y i
      = y (ix2 (i 0) (i 1)) - Ideal.log (∑ l : Fin 100000, Ideal.exp (y (ix2 (i 0) l))) := by
  have hin : inGroup i = ix2 (⟨(i 0).val % 8, Nat.mod_lt _ (by decide)⟩ : Fin 8) (i 1) := by
    funext a
    fin_cases a <;> rfl
  refine Eq.trans (congrArg (blockOut (rowsOf (F := Ideal) c y (rowGroup i))) hin) ?_
  refine (blockOut_apply (rowsOf (F := Ideal) c y (rowGroup i)) _ (fun l => (rowsOf_apply c y i l).trans_lt (h _)) (i 1)).trans ?_
  exact congrArg₂ (fun a b : EReal => a - Ideal.log b) (rowsOf_apply c y i (i 1))
    (Finset.sum_congr rfl fun l _ => congrArg Ideal.exp (rowsOf_apply c y i l))

end Cert.Proof.Ring16

end
-- ==== Proof.Equation.lean ====
/-
  The equation: over the extended reals, from equal arguments with no element `⊤`, the kernel and the reference end with
  equal results.
-/
module

public import proofs.«01_k».proof.Defs
public import proofs.«01_k».proof.Proof.Launch
public import proofs.«01_k».proof.Proof.KernelValue
public import proofs.«01_k».proof.Proof.ReferenceValue

@[expose] public section

noncomputable section

namespace Cert.Proof

open Idealize.ShloMosaic Idealize.SL.Sem

/-- What the kernel leaves is what the reference computes, element by element. -/
theorem kernelOut_eq (c : Dev Cert.KernelIdeal.nD) (y : FVec Ideal Cert.KernelIdeal.S128x100000 .f32) (h : ∀ i, y i < ⊤) :
    Ring16.kernelOut c y = Ref.out y :=
  funext fun i => (Ring16.kernelOut_apply c y h i).trans (Ref.out_apply y i).symm

/-- The value claim: both programs run, and end with equal results and their arguments as they were. -/
theorem equation : Cert.algebraic_KernelIdeal_ReferenceIdeal_pre_below_infinity := by
  intro m g m' g' hpre hargs
  refine ⟨fun c => Ring16.kernelOut c (m ((c.tc : Thread Cert.KernelIdeal.nD Cert.KernelIdeal.τ).loc Cert.KernelIdeal.main_arg0)), ?_, ?_⟩
  · exact (θ_run _ _ _).mono (fun _ h c => ⟨(h.1 c).2, (h.1 c).1⟩) (Ring16.run_result (F := Ideal) m g)
  · refine (θ_run _ _ _).mono (fun _ h c => ⟨(h c).1.trans ?_, (h c).2⟩) (Ref.run_out m' g')
    exact (congrArg Ref.out (hargs c)).trans (kernelOut_eq c _ (Ref.lt_top_of_pre _ (hpre c))).symm

end Cert.Proof

end
-- ==== Proof.lean ====
/-
  The claim, assembled: the frames of the kernel and of the reference, that the kernel over extended reals is the kernel,
  and that the kernel and the reference compute equal results where no element of the argument is plus infinity.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_below_infinity
public import proofs.«01_k».proof.Proof.Frames
public import proofs.«01_k».proof.Proof.Equation

@[expose] public section

noncomputable section

namespace Cert.Proof

/-- Everything claimed, under the shape facts the generated modules prove. -/
theorem claim : Cert.Claim :=
  ⟨Cert.Kernel.Gen.facts, Cert.KernelIdeal.Gen.facts, Cert.ReferenceIdeal.Gen.facts, Cert.Pre_below_infinity.Gen.facts,
    frame_kernel, frame_kernelIdeal, frame_kernelIdeal_pre, frame_reference, frame_reference_pre, trivial, equation⟩

end Cert.Proof

end
